-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased [hPre_finite_and_unbiased : Cert.Pre_finite_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased [hPre_finite_and_unbiased : Cert.Pre_finite_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_unbiased [hKernelIdeal : Cert.KernelIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_unbiased [hReferenceIdeal : Cert.ReferenceIdeal.Facts] [hPre_finite_and_unbiased : Cert.Pre_finite_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_unbiased [hKernelIdeal : Cert.KernelIdeal.Facts] [hReferenceIdeal : Cert.ReferenceIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_unbiased : Cert.Pre_finite_and_unbiased.Facts),
    quiescent_Kernel (hKernel := hKernel)
    ∧ quiescent_KernelIdeal (hKernelIdeal := hKernelIdeal)
    ∧ quiescent_KernelIdeal_pre_finite_and_unbiased (hKernelIdeal := hKernelIdeal) (hPre_finite_and_unbiased := hPre_finite_and_unbiased)
    ∧ quiescent_ReferenceIdeal (hReferenceIdeal := hReferenceIdeal)
    ∧ quiescent_ReferenceIdeal_pre_finite_and_unbiased (hReferenceIdeal := hReferenceIdeal) (hPre_finite_and_unbiased := hPre_finite_and_unbiased)
    ∧ preserves_Kernel_KernelIdeal
    ∧ algebraic_KernelIdeal_ReferenceIdeal_pre_finite_and_unbiased (hKernelIdeal := hKernelIdeal) (hReferenceIdeal := hReferenceIdeal) (hPre_finite_and_unbiased := hPre_finite_and_unbiased)
-- ==== Pre_finite_and_unbiased.lean ====
abbrev S256x36x512 : Shape := ⟨3, ![256, 36, 512]⟩
abbrev S256x92x512 : Shape := ⟨3, ![256, 92, 512]⟩
abbrev S512x128 : Shape := ⟨2, ![512, 128]⟩
abbrev S128 : Shape := ⟨1, ![128]⟩
abbrev S512x512 : Shape := ⟨2, ![512, 512]⟩
abbrev S512 : Shape := ⟨1, ![512]⟩
abbrev S_ : Shape := ⟨0, ![]⟩

class Facts : Prop where
  bcast_S_S256x36x512 : S_.BroadcastsInDim S256x36x512 (![] : Fin 0 → Fin S256x36x512.rank)
  reducesTo_S256x36x512_S_d0_1_2 : S256x36x512.ReducesTo [0, 1, 2] S_
  h_S_ : 0 < S_.numel
  bcast_S_S256x92x512 : S_.BroadcastsInDim S256x92x512 (![] : Fin 0 → Fin S256x92x512.rank)
  reducesTo_S256x92x512_S_d0_1_2 : S256x92x512.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg3 : FVec F S128 .f32) (main_arg5 : FVec F S128 .f32) (main_arg7 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_cst_6 : FVec F S_ .f32 := constant S_ .f32 0x00000000#32
  let main_v19 : FVec F S128 .f32 := broadcastInDim S128 ![] bcast_S_S128 main_cst_6
  let main_v20 : IVec S128 1 := cmpf .oeq main_arg3 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v18 main_v21
  let main_cst_8 : FVec F S_ .f32 := constant S_ .f32 0x00000000#32
  let main_v23 : FVec F S128 .f32 := broadcastInDim S128 ![] bcast_S_S128 main_cst_8
  let main_v24 : IVec S128 1 := cmpf .oeq main_arg5 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  let main_cst_10 : FVec F S_ .f32 := constant S_ .f32 0x00000000#32
  let main_v27 : FVec F S512 .f32 := broadcastInDim S512 ![] bcast_S_S512 main_cst_10
  let main_v28 : IVec S512 1 := cmpf .oeq main_arg7 main_v27
  let main_c_11 : IVec S_ 1 := constantI S_ 1 1#1
  let main_v29 : IVec S_ 1 := (fun x v => Host.reduce IntOp.andi x v reducesTo_S512_S_d0 h_S_) main_v28 main_c_11
  let main_v30 : IVec S_ 1 := andi main_v26 main_v29
  main_v30

def fn {F : FTy → Type} [FloatOps F] (main_arg0 : FVec F S256x36x512 .f32) (main_arg1 : FVec F S256x92x512 .f32) (main_arg2 : FVec F S512x128 .f32) (main_arg3 : FVec F S128 .f32) (main_arg4 : FVec F S512x128 .f32) (main_arg5 : FVec F S128 .f32) (main_arg6 : FVec F S512x512 .f32) (main_arg7 : FVec F S512 .f32) : IVec S_ 1 :=
  let main_v0 : FVec F S256x36x512 .f32 := Host.absf main_arg0
  let main_cst : FVec F S_ .f32 := constant S_ .f32 0x7F800000#32
  let main_v1 : FVec F S256x36x512 .f32 := broadcastInDim S256x36x512 ![] bcast_S_S256x36x512 main_cst
  let main_v2 : IVec S256x36x512 1 := cmpf .olt main_v0 main_v1
  let main_c : IVec S_ 1 := constantI S_ 1 1#1
  let main_v3 : IVec S_ 1 := (fun x v => Host.reduce IntOp.andi x v reducesTo_S256x36x512_S_d0_1_2 h_S_) main_v2 main_c
  let main_v4 : FVec F S256x92x512 .f32 := Host.absf main_arg1
  let main_cst_0 : FVec F S_ .f32 := constant S_ .f32 0x7F800000#32
  let main_v5 : FVec F S256x92x512 .f32 := broadcastInDim S256x92x512 ![] bcast_S_S256x92x512 main_cst_0
  let main_v6 : IVec S256x92x512 1 := cmpf .olt main_v4 main_v5
  let main_c_1 : IVec S_ 1 := constantI S_ 1 1#1
  let main_v7 : IVec S_ 1 := (fun x v => Host.reduce IntOp.andi x v reducesTo_S256x92x512_S_d0_1_2 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg3 main_arg5 main_arg7 main_v13 main_v16
-- ==== Kernel.lean ====
abbrev S256x36x512 : Shape := ⟨3, ![256, 36, 512]⟩
abbrev S256x92x512 : Shape := ⟨3, ![256, 92, 512]⟩
abbrev S512x128 : Shape := ⟨2, ![512, 128]⟩
abbrev S128 : Shape := ⟨1, ![128]⟩
abbrev S512x512 : Shape := ⟨2, ![512, 512]⟩
abbrev S512 : Shape := ⟨1, ![512]⟩
abbrev S512x256 : Shape := ⟨2, ![512, 256]⟩
abbrev S256x512 : Shape := ⟨2, ![256, 512]⟩
abbrev S32x36x512 : Shape := ⟨3, ![32, 36, 512]⟩
abbrev S32x92x512 : Shape := ⟨3, ![32, 92, 512]⟩
abbrev S32x512 : Shape := ⟨2, ![32, 512]⟩
abbrev S32x128x512 : Shape := ⟨3, ![32, 128, 512]⟩
abbrev S4096x512 : Shape := ⟨2, ![4096, 512]⟩
abbrev S4096x256 : Shape := ⟨2, ![4096, 256]⟩
abbrev S4096x128 : Shape := ⟨2, ![4096, 128]⟩
abbrev S32x128x128 : Shape := ⟨3, ![32, 128, 128]⟩
abbrev S1x128x128 : Shape := ⟨3, ![1, 128, 128]⟩
abbrev S128x128 : Shape := ⟨2, ![128, 128]⟩
abbrev S128x1 : Shape := ⟨2, ![128, 1]⟩
abbrev S1x128x512 : Shape := ⟨3, ![1, 128, 512]⟩
abbrev S128x512 : Shape := ⟨2, ![128, 512]⟩
abbrev S4096x1 : Shape := ⟨2, ![4096, 1]⟩

abbrev nBuf : Space → Nat
  | .hbm => 14
  | .vmem => 8
  | .smem => 0
  | _ => 0

abbrev bufTy : (tb : Table) → Fin (tcTables nBuf tb) → BufTy
  | .hbm, ⟨0, _⟩ => ⟨S256x36x512, .f32⟩
  | .hbm, ⟨1, _⟩ => ⟨S256x92x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x512, .f32⟩
  | .hbm, ⟨7, _⟩ => ⟨S512, .f32⟩
  | .hbm, ⟨8, _⟩ => ⟨S256x36x512, .bf16⟩
  | .hbm, ⟨9, _⟩ => ⟨S256x92x512, .bf16⟩
  | .hbm, ⟨10, _⟩ => ⟨S512x256, .f32⟩
  | .hbm, ⟨11, _⟩ => ⟨S512x256, .bf16⟩
  | .hbm, ⟨12, _⟩ => ⟨S512x512, .bf16⟩
  | .hbm, ⟨13, _⟩ => ⟨S256x512, .f32⟩
  | .local _ .vmem, ⟨0, _⟩ => ⟨S32x36x512, .bf16⟩
  | .local _ .vmem, ⟨1, _⟩ => ⟨S32x36x512, .bf16⟩
  | .local _ .vmem, ⟨2, _⟩ => ⟨S32x92x512, .bf16⟩
  | .local _ .vmem, ⟨3, _⟩ => ⟨S32x92x512, .bf16⟩
  | .local _ .vmem, ⟨4, _⟩ => ⟨S512x256, .bf16⟩
  | .local _ .vmem, ⟨5, _⟩ => ⟨S512x512, .bf16⟩
  | .local _ .vmem, ⟨6, _⟩ => ⟨S32x512, .f32⟩
  | .local _ .vmem, ⟨7, _⟩ => ⟨S32x512, .f32⟩
  | _, _ => ⟨S256x36x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x36x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x92x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x36x512 : Shape := ⟨3, ![256, 36, 512]⟩
abbrev S256x92x512 : Shape := ⟨3, ![256, 92, 512]⟩
abbrev S512x128 : Shape := ⟨2, ![512, 128]⟩
abbrev S128 : Shape := ⟨1, ![128]⟩
abbrev S512x512 : Shape := ⟨2, ![512, 512]⟩
abbrev S512 : Shape := ⟨1, ![512]⟩
abbrev S256x128x512 : Shape := ⟨3, ![256, 128, 512]⟩
abbrev S256x128x128 : Shape := ⟨3, ![256, 128, 128]⟩
abbrev S1x1x128 : Shape := ⟨3, ![1, 1, 128]⟩
abbrev S_ : Shape := ⟨0, ![]⟩
abbrev S256x128 : Shape := ⟨2, ![256, 128]⟩
abbrev S256x128x1 : Shape := ⟨3, ![256, 128, 1]⟩
abbrev S1x1x512 : Shape := ⟨3, ![1, 1, 512]⟩
abbrev S256x512 : Shape := ⟨2, ![256, 512]⟩

abbrev nBuf : Space → Nat
  | .hbm => 45
  | .vmem => 0
  | .smem => 0
  | _ => 0

abbrev bufTy : (tb : Table) → Fin (tcTables nBuf tb) → BufTy
  | .hbm, ⟨0, _⟩ => ⟨S256x36x512, .f32⟩
  | .hbm, ⟨1, _⟩ => ⟨S256x92x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x512, .f32⟩
  | .hbm, ⟨7, _⟩ => ⟨S512, .f32⟩
  | .hbm, ⟨8, _⟩ => ⟨S256x128x512, .f32⟩
  | .hbm, ⟨9, _⟩ => ⟨S256x128x128, .f32⟩
  | .hbm, ⟨10, _⟩ => ⟨S1x1x128, .f32⟩
  | .hbm, ⟨11, _⟩ => ⟨S256x128x128, .f32⟩
  | .hbm, ⟨12, _⟩ => ⟨S256x128x128, .f32⟩
  | .hbm, ⟨13, _⟩ => ⟨S256x128x128, .f32⟩
  | .hbm, ⟨14, _⟩ => ⟨S1x1x128, .f32⟩
  | .hbm, ⟨15, _⟩ => ⟨S256x128x128, .f32⟩
  | .hbm, ⟨16, _⟩ => ⟨S256x128x128, .f32⟩
  | .hbm, ⟨17, _⟩ => ⟨S256x128x128, .f32⟩
  | .hbm, ⟨18, _⟩ => ⟨S_, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128x1, .f32⟩
  | .hbm, ⟨24, _⟩ => ⟨S256x128x128, .f32⟩
  | .hbm, ⟨25, _⟩ => ⟨S256x128x128, .f32⟩
  | .hbm, ⟨26, _⟩ => ⟨S256x128x128, .f32⟩
  | .hbm, ⟨27, _⟩ => ⟨S_, .f32⟩
  | .hbm, ⟨28, _⟩ => ⟨S256x128, .f32⟩
  | .hbm, ⟨29, _⟩ => ⟨S256x128x1, .f32⟩
  | .hbm, ⟨30, _⟩ => ⟨S256x128x128, .f32⟩
  | .hbm, ⟨31, _⟩ => ⟨S256x128x128, .f32⟩
  | .hbm, ⟨32, _⟩ => ⟨S256x128x512, .f32⟩
  | .hbm, ⟨33, _⟩ => ⟨S256x128x512, .f32⟩
  | .hbm, ⟨34, _⟩ => ⟨S1x1x512, .f32⟩
  | .hbm, ⟨35, _⟩ => ⟨S256x128x512, .f32⟩
  | .hbm, ⟨36, _⟩ => ⟨S256x128x512, .f32⟩
  | .hbm, ⟨37, _⟩ => ⟨S_, .f32⟩
  | .hbm, ⟨38, _⟩ => ⟨S256x128x512, .f32⟩
  | .hbm, ⟨39, _⟩ => ⟨S256x128x512, .f32⟩
  | .hbm, ⟨40, _⟩ => ⟨S_, .f32⟩
  | .hbm, ⟨41, _⟩ => ⟨S256x512, .f32⟩
  | .hbm, ⟨42, _⟩ => ⟨S_, .f32⟩
  | .hbm, ⟨43, _⟩ => ⟨S256x512, .f32⟩
  | .hbm, ⟨44, _⟩ => ⟨S256x512, .f32⟩
  | _, _ => ⟨S256x36x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Formula.lean ====
/-
  The mathematics of one batch entry over the extended reals: what the kernel computes and what the reference computes,
  both as functions of the entry's 128 nodes and of the weights, and their equality when the logits are real numbers.
  The kernel divides a row by its sum of exponentials after the two linear maps, the reference before them.
-/
module

public import Idealize.ShloMosaic.PureOps.Ideal
public import Idealize.ShloMosaic.Lib.IdealHost

@[expose] public section

noncomputable section

namespace Cert.Gcn

open Idealize.ShloMosaic

/-- An extended real that is a real number. -/
def IsReal (x : EReal) : Prop := x ≠ ⊤ ∧ x ≠ ⊥

theorem IsReal.coe (r : ℝ) : IsReal (r : EReal) := ⟨EReal.coe_ne_top r, EReal.coe_ne_bot r⟩

theorem IsReal.exists {x : EReal} (h : IsReal x) : ∃ r : ℝ, x = r := ⟨x.toReal, (EReal.coe_toReal h.1 h.2).symm⟩

theorem IsReal.add {x y : EReal} (hx : IsReal x) (hy : IsReal y) : IsReal (x + y) := by
  obtain ⟨a, rfl⟩ := hx.exists
  obtain ⟨b, rfl⟩ := hy.exists
  exact IsReal.coe (a + b)

theorem IsReal.mul {x y : EReal} (hx : IsReal x) (hy : IsReal y) : IsReal (x * y) := by
  obtain ⟨a, rfl⟩ := hx.exists
  obtain ⟨b, rfl⟩ := hy.exists
  exact IsReal.coe (a * b)

theorem IsReal.sub {x y : EReal} (hx : IsReal x) (hy : IsReal y) : IsReal (x - y) := by
  obtain ⟨a, rfl⟩ := hx.exists
  obtain ⟨b, rfl⟩ := hy.exists
  exact IsReal.coe (a - b)

/-- A finite sum of real numbers is a real number. -/
theorem IsReal.sum {ι : Type} (s : Finset ι) (f : ι → EReal) (h : ∀ i ∈ s, IsReal (f i)) : IsReal (∑ i ∈ s, f i) :=
  Finset.sum_induction f IsReal (fun _ _ => IsReal.add) (IsReal.coe 0) h

/-- A nonnegative real factor moves out of a finite sum, whatever the terms. -/
theorem sum_mul_of_nonneg {ι : Type} (s : Finset ι) (f : ι → EReal) {c : EReal} (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-! ## One batch entry -/

/-- The float word the row maximum starts from denotes −∞. -/
theorem ofBits_neg_inf : Ideal.ofBits .f32 0xFF800000#32 = ⊥ := by simp [Ideal.ofBits, Ideal.ieee]

/-- The float word of +∞ denotes +∞. -/
theorem ofBits_pos_inf : Ideal.ofBits .f32 0x7F800000#32 = ⊤ := by simp [Ideal.ofBits, Ideal.ieee]

/-- The 128 nodes of an entry: 36 visual ones, then 92 semantic ones. -/
def node (vis : Fin 36 → Fin 512 → EReal) (sem : Fin 92 → Fin 512 → EReal) (i : Fin 128) (d : Fin 512) : EReal :=
  if h : i.val < 36 then vis ⟨i.val, h⟩ d else sem ⟨i.val - 36, by omega⟩ d

/-- A linear projection of the nodes. -/
def proj (x : Fin 128 → Fin 512 → EReal) (w : Fin 512 → Fin 128 → EReal) (i h : Fin 128) : EReal := ∑ d, x i d * w d h

/-- The adjacency logits: the two projections of the nodes against each other. -/
def score (x : Fin 128 → Fin 512 → EReal) (w1 w2 : Fin 512 → Fin 128 → EReal) (i j : Fin 128) : EReal :=
  ∑ h, proj x w1 i h * proj x w2 j h

/-- The greatest logit of a row. -/
def rowMax (l : Fin 128 → Fin 128 → EReal) (i : Fin 128) : EReal :=
  Finset.univ.fold max (Ideal.ofBits .f32 0xFF800000#32) (l i)

/-- The exponential of a logit less its row's greatest. -/
def weight (l : Fin 128 → Fin 128 → EReal) (i j : Fin 128) : EReal := Ideal.exp (l i j - rowMax l i)

/-- A row's sum of exponentials. -/
def total (l : Fin 128 → Fin 128 → EReal) (i : Fin 128) : EReal := ∑ j, weight l i j

/-- The kernel's result for an entry: unnormalised weights through both linear maps, each row scaled afterwards. -/
def kernelOut (x : Fin 128 → Fin 512 → EReal) (w1 w2 : Fin 512 → Fin 128 → EReal) (wg : Fin 512 → Fin 512 → EReal) (k : Fin 512) : EReal :=
  Ideal.div (∑ i, max ((∑ d, (∑ j, weight (score x w1 w2) i j * x j d) * wg d k) * Ideal.div 1 (total (score x w1 w2) i)) 0)
    (Ideal.ofBits .f32 0x43000000#32)

/-- The reference's result for an entry: each weight divided by its row's sum first. -/
def referenceOut (x : Fin 128 → Fin 512 → EReal) (w1 w2 : Fin 512 → Fin 128 → EReal) (wg : Fin 512 → Fin 512 → EReal) (k : Fin 512) : EReal :=
  Ideal.div (∑ i, max (∑ d, (∑ j, Ideal.div (weight (score x w1 w2) i j) (total (score x w1 w2) i) * x j d) * wg d k) 0)
    (Ideal.ofBits .f32 0x43000000#32)

/-! ## Real logits -/

theorem node_isReal {vis : Fin 36 → Fin 512 → EReal} {sem : Fin 92 → Fin 512 → EReal} (hv : ∀ i d, IsReal (vis i d))
    (hs : ∀ i d, IsReal (sem i d)) (i : Fin 128) (d : Fin 512) : IsReal (node vis sem i d) := by
  unfold node
  split
  · exact hv _ _
  · exact hs _ _

theorem proj_isReal {x : Fin 128 → Fin 512 → EReal} {w : Fin 512 → Fin 128 → EReal} (hx : ∀ i d, IsReal (x i d))
    (hw : ∀ d h, IsReal (w d h)) (i h : Fin 128) : IsReal (proj x w i h) :=
  IsReal.sum _ _ fun d _ => (hx i d).mul (hw d h)

theorem score_isReal {x : Fin 128 → Fin 512 → EReal} {w1 w2 : Fin 512 → Fin 128 → EReal} (hx : ∀ i d, IsReal (x i d))
    (h1 : ∀ d h, IsReal (w1 d h)) (h2 : ∀ d h, IsReal (w2 d h)) (i j : Fin 128) : IsReal (score x w1 w2 i j) :=
  IsReal.sum _ _ fun h _ => (proj_isReal hx h1 i h).mul (proj_isReal hx h2 j h)

theorem rowMax_isReal {l : Fin 128 → Fin 128 → EReal} (hl : ∀ i j, IsReal (l i j)) (i : Fin 128) : IsReal (rowMax l i) := by
  unfold rowMax
  rw [ofBits_neg_inf]
  refine ⟨ne_of_lt ((Finset.fold_max_lt _).2 ⟨bot_lt_top, fun j _ => lt_top_iff_ne_top.2 (hl i j).1⟩), ?_⟩
  exact ne_of_gt ((Finset.lt_fold_max _).2 (.inr ⟨0, Finset.mem_univ _, bot_lt_iff_ne_bot.2 (hl i 0).2⟩))

/-- With real logits every weight is a positive real number. -/
theorem weight_pos {l : Fin 128 → Fin 128 → EReal} (hl : ∀ i j, IsReal (l i j)) (i j : Fin 128) :
    ∃ r : ℝ, 0 < r ∧ weight l i j = r := by
  obtain ⟨a, ha⟩ := ((hl i j).sub (rowMax_isReal hl i)).exists
  exact ⟨Real.exp a, Real.exp_pos a, by unfold weight; rw [ha]; rfl⟩

/-- With real logits every row's sum is a positive real number. -/
theorem total_pos {l : Fin 128 → Fin 128 → EReal} (hl : ∀ i j, IsReal (l i j)) (i : Fin 128) :
    0 < total l i ∧ total l i ≠ ⊤ := by
  refine ⟨?_, (IsReal.sum _ _ fun j _ => ?_).1⟩
  · refine lt_of_lt_of_le (b := weight l i 0) ?_ (Finset.single_le_sum (f := weight l i) (fun j _ => ?_) (Finset.mem_univ 0))
    · obtain ⟨r, h, e⟩ := weight_pos hl i 0
      rw [e]; exact EReal.coe_pos.2 h
    · obtain ⟨r, h, e⟩ := weight_pos hl i j
      rw [e]; exact EReal.coe_nonneg.2 h.le
  · obtain ⟨r, _, e⟩ := weight_pos hl i j
    rw [e]; exact IsReal.coe r

/-- With real logits the kernel's result is the reference's: the reciprocal of a row's sum, a nonnegative real, moves
    through both sums. -/
theorem kernelOut_eq_referenceOut {x : Fin 128 → Fin 512 → EReal} {w1 w2 : Fin 512 → Fin 128 → EReal}
    (wg : Fin 512 → Fin 512 → EReal) (hl : ∀ i j, IsReal (score x w1 w2 i j)) (k : Fin 512) :
    kernelOut x w1 w2 wg k = referenceOut x w1 w2 wg k := by
  unfold kernelOut referenceOut
  refine congrArg (Ideal.div · _) (Finset.sum_congr rfl fun i _ => congrArg (max · 0) ?_)
  obtain ⟨hpos, hne⟩ := total_pos hl i
  obtain ⟨s, hs⟩ := IsReal.exists ⟨hne, (lt_trans EReal.bot_lt_zero hpos).ne'⟩
  have hs0 : 0 < s := by rw [hs] at hpos; exact EReal.coe_pos.1 hpos
  have hdiv : ∀ y : EReal, Ideal.div y (total (score x w1 w2) i) = y * (s⁻¹ : ℝ) := by
    intro y
    unfold Ideal.div
    rw [if_neg hpos.ne', hs, EReal.coe_inv]
  have h0 : (0 : EReal) ≤ (s⁻¹ : ℝ) := EReal.coe_nonneg.2 (inv_nonneg.2 hs0.le)
  have ht : ((s⁻¹ : ℝ) : EReal) ≠ ⊤ := EReal.coe_ne_top _
  simp only [hdiv, one_mul]
  rw [← sum_mul_of_nonneg _ _ h0 ht]
  refine Finset.sum_congr rfl fun d _ => ?_
  rw [mul_right_comm, ← sum_mul_of_nonneg _ _ h0 ht]
  exact congrArg (· * wg d k) (Finset.sum_congr rfl fun j _ => mul_right_comm _ _ _)

end Cert.Gcn

end
-- ==== Proof.Slab.lean ====
/-
  One batch slab of the kernel's body: the operations the body spells out thirty-two times, once per slab of its
  block, written as functions of the slab's number, and each read at an index.
-/
module

public import proofs.«01_k».proof.Proof.Gen.KernelIdeal.Value
public import proofs.«01_k».proof.Proof.Formula
public import Idealize.ShloMosaic.Lib.Pointwise

@[expose] public section

noncomputable section

namespace Cert.Slab

open Idealize.ShloMosaic Cert.KernelIdeal Cert.KernelIdeal.Gen

variable {F : FTy → Type} [FloatOps F]

/-- A cut of one slab from the projected nodes fits, whichever of the 32 slabs it is. -/
theorem slices_proj (n : Fin 32) : S32x128x128.Slices ![n.val, 0, 0] S1x128x128 := by
  revert n; decide

/-- A cut of one slab from the nodes fits, whichever of the 32 slabs it is. -/
theorem slices_node (n : Fin 32) : S32x128x512.Slices ![n.val, 0, 0] S1x128x512 := by
  revert n; decide

/-- The logits of slab `n`: the slab's first projection against its second, both cut from the block. -/
def logits (v11 v13 : FVec F S32x128x128 .bf16) (n : Fin 32) : FVec F S128x128 .f32 :=
  matmul dot_S128x128_S128x128_S128x128_1_1_0_0_n_n none
    (shapeCast S128x128 (extractStridedSlice S1x128x128 ![n.val, 0, 0] v11 (slices_proj n)) shapeCasts_S1x128x128_S128x128)
    (shapeCast S128x128 (extractStridedSlice S1x128x128 ![n.val, 0, 0] v13 (slices_proj n)) shapeCasts_S1x128x128_S128x128)
    (constant S128x128 .f32 0x00000000#32)

/-- Aggregation before normalisation: the weights `e` of slab `n` applied to the slab's nodes. -/
def aggr (v4 : FVec F S32x128x512 .bf16) (e : FVec F S128x128 .f32) (n : Fin 32) : FVec F S128x512 .bf16 :=
  truncf .bf16 (matmul dot_S128x128_S128x512_S128x512_1_0_0_1_n_n none (truncf .bf16 e bitsLt_bf16_f32)
    (shapeCast S128x512 (extractStridedSlice S1x128x512 ![n.val, 0, 0] v4 (slices_node n)) shapeCasts_S1x128x512_S128x512)
    (constant S128x512 .f32 0x00000000#32)) bitsLt_bf16_f32

/-- Where the logits are `l`, their exponentials less the row maximum are the printed value. -/
abbrev expo (l : FVec F S128x128 .f32) : FVec F S128x128 .f32 := k0_pay41 l

/-- One over each row's sum of exponentials. -/
abbrev recip (l : FVec F S128x128 .f32) : FVec F S128x1 .f32 := k0_pay43 l

/-- Thirty-two slabs of 128 rows laid end to end are the 4096 rows of a block. -/
theorem cat_rows (P : Fin 32 → FVec F S128x512 .bf16) :
    Shape.Concatenates ((List.ofFn fun n => (⟨S128x512, P n⟩ : (s : Shape) × (s.Idx → F .bf16))).map (·.1)) S4096x512 0 := by
  have e : (List.ofFn fun n => (⟨S128x512, P n⟩ : (s : Shape) × (s.Idx → F .bf16))).map (·.1) = List.replicate 32 S128x512 := rfl
  rw [e]; decide

/-- The same for the columns of row factors. -/
theorem cat_cols (P : Fin 32 → FVec F S128x1 .f32) :
    Shape.Concatenates ((List.ofFn fun n => (⟨S128x1, P n⟩ : (s : Shape) × (s.Idx → F .f32))).map (·.1)) S4096x1 0 := by
  have e : (List.ofFn fun n => (⟨S128x1, P n⟩ : (s : Shape) × (s.Idx → F .f32))).map (·.1) = List.replicate 32 S128x1 := rfl
  rw [e]; decide

/-- The 4096 rows of aggregated nodes of a block. -/
def rows (v4 : FVec F S32x128x512 .bf16) (v11 v13 : FVec F S32x128x128 .bf16) : FVec F S4096x512 .bf16 :=
  concatenate S4096x512 0 (List.ofFn fun n => ⟨S128x512, aggr v4 (expo (logits v11 v13 n)) n⟩) (cat_rows _)

/-- The 4096 row factors of a block. -/
def factors (v11 v13 : FVec F S32x128x128 .bf16) : FVec F S4096x1 .f32 :=
  concatenate S4096x1 0 (List.ofFn fun n => ⟨S128x1, recip (logits v11 v13 n)⟩) (cat_cols _)

/-- The block the body leaves: its 32 spelt-out slabs are the 32 values of the functions above. -/
theorem out_eq (x0 : Vec F S32x36x512 .bf16) (x1 : Vec F S32x92x512 .bf16) (x2 : Vec F S512x256 .bf16) (x3 : Vec F S512x512 .bf16) :
      out0_4 x0 x1 x2 x3 = View.canon [⟨r0_4, k0_pay4
      (rows (k0_pay5 (View.ld x0 r0_0) (View.ld x1 r0_1)) (k0_pay7 (View.ld x0 r0_0) (View.ld x1 r0_1) (View.ld x2 r0_2))
        (k0_pay8 (View.ld x0 r0_0) (View.ld x1 r0_1) (View.ld x2 r0_2)))
      (factors (k0_pay7 (View.ld x0 r0_0) (View.ld x1 r0_1) (View.ld x2 r0_2))
        (k0_pay8 (View.ld x0 r0_0) (View.ld x1 r0_1) (View.ld x2 r0_2)))
      (View.ld x3 r0_3)⟩] := by
  rfl

/-! ## The functions read at an index, over the extended reals -/

theorem logits_apply (v11 v13 : FVec Ideal S32x128x128 .bf16) (n : Fin 32) (i j : Fin 128) :
    logits v11 v13 n (ix2 i j) = ∑ h, v11 (ix3 n i h) * v13 (ix3 n j h) := by
  pointwise [logits, dot_S128x128_S128x128_S128x128_1_1_0_0_n_n]

theorem expo_apply (l : FVec Ideal S128x128 .f32) (i j : Fin 128) :
    expo l (ix2 i j) = Gcn.weight (fun i j => l (ix2 i j)) i j := by
  unfold expo k0_pay41
  pointwise
  rfl

theorem recip_apply (l : FVec Ideal S128x128 .f32) (i : Fin 128) :
    recip l (ix2 i 0) = Ideal.div 1 (Gcn.total (fun i j => l (ix2 i j)) i) := by
  unfold recip k0_pay43
  pointwise
  exact congrArg (Ideal.div 1) (Finset.sum_congr rfl fun j _ => expo_apply l i j)

theorem aggr_apply (v4 : FVec Ideal S32x128x512 .bf16) (e : FVec Ideal S128x128 .f32) (n : Fin 32) (i : Fin 128) (d : Fin 512) :
    aggr v4 e n (ix2 i d) = ∑ j, e (ix2 i j) * v4 (ix3 n j d) := by
  pointwise [aggr, dot_S128x128_S128x512_S128x512_1_0_0_1_n_n]

/-- Row `128 b + i` of a block's rows is row `i` of slab `b`. -/
theorem rows_apply (v4 : FVec Ideal S32x128x512 .bf16) (v11 v13 : FVec Ideal S32x128x128 .bf16) (b : Fin 32) (i : Fin 128)
    (r : Fin 4096) (hr : r.val = b.val * 128 + i.val) (d : Fin 512) :
    rows v4 v11 v13 (ix2 r d) = aggr v4 (expo (logits v11 v13 b)) b (ix2 i d) := by
  refine concatenate_ofFn_apply (t := S4096x512) (s₁ := S128x512) 0 (fun n => aggr v4 (expo (logits v11 v13 n)) n) _ rfl 128 rfl (ix2 r d) b ?_ (ix2 i d) ?_ ?_
  · show r.val / 128 = b.val
    omega
  · show i.val = r.val % 128
    omega
  · intro a ha
    match a, ha with
    | ⟨0, _⟩, ha => exact absurd rfl ha
    | ⟨1, _⟩, _ => rfl

/-- Factor `128 b + i` of a block's factors is factor `i` of slab `b`. -/
theorem factors_apply (v11 v13 : FVec Ideal S32x128x128 .bf16) (b : Fin 32) (i : Fin 128)
    (r : Fin 4096) (hr : r.val = b.val * 128 + i.val) :
    factors v11 v13 (ix2 r 0) = recip (logits v11 v13 b) (ix2 i 0) := by
  refine concatenate_ofFn_apply (t := S4096x1) (s₁ := S128x1) 0 (fun n => recip (logits v11 v13 n)) _ rfl 128 rfl (ix2 r 0) b ?_ (ix2 i 0) ?_ ?_
  · show r.val / 128 = b.val
    omega
  · show i.val = r.val % 128
    omega
  · intro a ha
    match a, ha with
    | ⟨0, _⟩, ha => exact absurd rfl ha
    | ⟨1, _⟩, _ => rfl

/-- The second linear map, the scaling by the row factor, the clip at zero and the mean over the nodes. -/
theorem tail_apply (R : FVec Ideal S4096x512 .bf16) (f : FVec Ideal S4096x1 .f32) (w : FVec Ideal S512x512 .bf16) (b : Fin 32) (k : Fin 512) :
    k0_pay4 R f w (ix2 b k) = Ideal.div
      (∑ i : Fin 128, max ((∑ d, R (ix2 ⟨b.val * 128 + i.val, by omega⟩ d) * w (ix2 d k)) * f (ix2 ⟨b.val * 128 + i.val, by omega⟩ 0)) 0)
      (Ideal.ofBits .f32 0x43000000#32) := by
  pointwise [k0_pay4, dot_S4096x512_S512x512_S4096x512_1_0_0_1_n_n]

theorem nodes_apply (x0 : FVec Ideal S32x36x512 .bf16) (x1 : FVec Ideal S32x92x512 .bf16) (b : Fin 32) (i : Fin 128) (d : Fin 512) :
    k0_pay5 (F := Ideal) x0 x1 (ix3 b i d) = Gcn.node (fun i d => x0 (ix3 b i d)) (fun i d => x1 (ix3 b i d)) i d := by
  pointwise [k0_pay5]
  rfl

theorem first_apply (x0 : FVec Ideal S32x36x512 .bf16) (x1 : FVec Ideal S32x92x512 .bf16) (w : FVec Ideal S512x256 .bf16) (b : Fin 32) (i h : Fin 128) :
    k0_pay7 x0 x1 w (ix3 b i h) = ∑ d, k0_pay5 x0 x1 (ix3 b i d) * w (ix2 d ⟨h.val, by omega⟩) := by
  pointwise [k0_pay7, k0_pay6, dot_S4096x512_S512x256_S4096x256_1_0_0_1_n_n]

theorem second_apply (x0 : FVec Ideal S32x36x512 .bf16) (x1 : FVec Ideal S32x92x512 .bf16) (w : FVec Ideal S512x256 .bf16) (b : Fin 32) (i h : Fin 128) :
    k0_pay8 x0 x1 w (ix3 b i h) = ∑ d, k0_pay5 x0 x1 (ix3 b i d) * w (ix2 d ⟨128 + h.val, by omega⟩) := by
  pointwise [k0_pay8, k0_pay6, dot_S4096x512_S512x256_S4096x256_1_0_0_1_n_n]

theorem zero3 : (![0, 0, 0] : Fin 3 → Nat) = fun _ => 0 := by decide

theorem zero2 : (![0, 0] : Fin 2 → Nat) = fun _ => 0 := by decide

/-- The logits of slab `b` are the formula's, the two projections' weights standing side by side in the third operand. -/
theorem logits_eq_score (x0 : FVec Ideal S32x36x512 .bf16) (x1 : FVec Ideal S32x92x512 .bf16) (x2 : FVec Ideal S512x256 .bf16) (b : Fin 32) :
    (fun i j => logits (F := Ideal) (k0_pay7 x0 x1 x2) (k0_pay8 x0 x1 x2) b (ix2 i j)) =
      Gcn.score (Gcn.node (fun i d => x0 (ix3 b i d)) (fun i d => x1 (ix3 b i d)))
        (fun d h => x2 (ix2 d ⟨h.val, by omega⟩)) (fun d h => x2 (ix2 d ⟨128 + h.val, by omega⟩)) := by
  funext i j
  rw [logits_apply]
  simp only [first_apply, second_apply, nodes_apply]
  rfl

/-- What the body stores, from the loaded blocks, is the kernel's formula at the entry's nodes. -/
theorem store_apply (x0 : FVec Ideal S32x36x512 .bf16) (x1 : FVec Ideal S32x92x512 .bf16) (x2 : FVec Ideal S512x256 .bf16)
    (x3 : FVec Ideal S512x512 .bf16) (b : Fin 32) (k : Fin 512) :
    k0_pay4 (F := Ideal) (rows (k0_pay5 x0 x1) (k0_pay7 x0 x1 x2) (k0_pay8 x0 x1 x2)) (factors (k0_pay7 x0 x1 x2) (k0_pay8 x0 x1 x2)) x3 (ix2 b k) =
      Gcn.kernelOut (Gcn.node (fun i d => x0 (ix3 b i d)) (fun i d => x1 (ix3 b i d)))
        (fun d h => x2 (ix2 d ⟨h.val, by omega⟩)) (fun d h => x2 (ix2 d ⟨128 + h.val, by omega⟩)) (fun d k => x3 (ix2 d k)) k := by
  rw [tail_apply]
  unfold Gcn.kernelOut
  refine congrArg (Ideal.div · _) (Finset.sum_congr rfl fun i _ => congrArg (max · 0) ?_)
  rw [factors_apply _ _ b i _ rfl, recip_apply, logits_eq_score]
  refine congrArg (· * _) (Finset.sum_congr rfl fun d _ => congrArg (· * _) ?_)
  rw [rows_apply _ _ _ b i _ rfl, aggr_apply]
  refine Finset.sum_congr rfl fun j _ => ?_
  rw [expo_apply, logits_eq_score, nodes_apply]

/-- Entry `b` of the block the body leaves is the kernel's formula at the entry's nodes. -/
theorem out_apply (x0 : Vec Ideal S32x36x512 .bf16) (x1 : Vec Ideal S32x92x512 .bf16) (x2 : Vec Ideal S512x256 .bf16)
    (x3 : Vec Ideal S512x512 .bf16) (b : Fin 32) (k : Fin 512) :
    out0_4 (F := Ideal) x0 x1 x2 x3 (ix2 b k) = Gcn.kernelOut (Gcn.node (fun i d => x0 (ix3 b i d)) (fun i d => x1 (ix3 b i d)))
      (fun d h => x2 (ix2 d ⟨h.val, by omega⟩)) (fun d h => x2 (ix2 d ⟨128 + h.val, by omega⟩)) (fun d k => x3 (ix2 d k)) k := by
  have h0 : View.ld x0 r0_0 = x0 := View.ld_unit_zero zero3 _ _
  have h1 : View.ld x1 r0_1 = x1 := View.ld_unit_zero zero3 _ _
  have h2 : View.ld x2 r0_2 = x2 := View.ld_unit_zero zero2 _ _
  have h3 : View.ld x3 r0_3 = x3 := View.ld_unit_zero zero2 _ _
  rw [out_eq, h0, h1, h2, h3]
  exact (congrFun (View.canon_unit_zero zero2 _ _) (ix2 b k)).trans (store_apply x0 x1 x2 x3 b k)

end Cert.Slab

end
-- ==== Proof.KernelValue.lean ====
/-
  The kernel's output array after its run, index by index: the grid's eight blocks, each the body's result on the
  blocks of the launched arguments.
-/
module

public import proofs.«01_k».proof.Proof.Slab
public import Idealize.ShloMosaic.Lib.StableHlo.ReadAt

@[expose] public section

noncomputable section

namespace Cert.KernelValue

open Idealize.ShloMosaic Idealize.ShloMosaic.TcCoe Cert.KernelIdeal Cert.KernelIdeal.Gen

variable (m : (ℓ : Loc nD τ sig) → Buf (Elt Ideal) ℓ) (c : Dev nD)

/-! ## The arrays the region finds -/

theorem V_vis (b : Fin 256) (i : Fin 36) (d : Fin 512) :
    (V m c main_v0 : S256x36x512.Idx → EReal) (ix3 b i d) = (m (c, Proc.tc.devRef main_arg0) : S256x36x512.Idx → EReal) (ix3 b i d) := by
  unfold V
  after_reads_at

theorem V_sem (b : Fin 256) (i : Fin 92) (d : Fin 512) :
    (V m c main_v1 : S256x92x512.Idx → EReal) (ix3 b i d) = (m (c, Proc.tc.devRef main_arg1) : S256x92x512.Idx → EReal) (ix3 b i d) := by
  unfold V
  after_reads_at

/-- The joined projection weights: the first projection's columns … -/
theorem V_first (d : Fin 512) (h : Fin 128) :
    (V m c main_v3 : S512x256.Idx → EReal) (ix2 d ⟨h.val, by omega⟩) = (m (c, Proc.tc.devRef main_arg2) : S512x128.Idx → EReal) (ix2 d h) := by
  unfold V
  after_reads_at
  rfl

/-- … then the second projection's. -/
theorem V_second (d : Fin 512) (h : Fin 128) :
    (V m c main_v3 : S512x256.Idx → EReal) (ix2 d ⟨128 + h.val, by omega⟩) = (m (c, Proc.tc.devRef main_arg4) : S512x128.Idx → EReal) (ix2 d h) := by
  unfold V
  after_reads_at
  rfl

theorem V_gcn (d k : Fin 512) :
    (V m c main_v4 : S512x512.Idx → EReal) (ix2 d k) = (m (c, Proc.tc.devRef main_arg6) : S512x512.Idx → EReal) (ix2 d k) := by
  unfold V
  after_reads_at

/-! ## The blocks: point `t` has the entries `32 t … 32 t + 31`, and the weights whole -/

theorem index_vis : ∀ t : Fin grid0.N, win0_0.index t = ![t.val, 0, 0] := by decide

theorem index_sem : ∀ t : Fin grid0.N, win0_1.index t = ![t.val, 0, 0] := by decide

theorem index_proj : ∀ t : Fin grid0.N, win0_2.index t = ![0, 0] := by decide

theorem index_gcn : ∀ t : Fin grid0.N, win0_3.index t = ![0, 0] := by decide

theorem index_out : ∀ t : Fin grid0.N, win0_4.index t = ![t.val, 0] := by decide

theorem iblk_vis (t : Fin cfg0.N) (b : Fin 32) (i : Fin 36) (d : Fin 512) (r : Fin 256) (hr : r.val = t.val * 32 + b.val) :
    (iblk m c 0 t : S32x36x512.Idx → EReal) (ix3 b i d) = (m (c, Proc.tc.devRef main_arg0) : S256x36x512.Idx → EReal) (ix3 r i d) := by
  refine Eq.trans ?_ (V_vis m c r i d)
  show (V m c main_v0 : S256x36x512.Idx → EReal) ((win0_0.rect t).emb (ix3 b i d)) = _
  refine congrArg (V m c main_v0 : S256x36x512.Idx → EReal) (funext fun a => Fin.ext ?_)
  rw [Pipeline.Window.rect_emb_val win0_0 t _ a rfl, index_vis t]
  match a with
  | ⟨0, _⟩ => exact hr.symm
  | ⟨1, _⟩ => exact Nat.zero_add _
  | ⟨2, _⟩ => exact Nat.zero_add _

theorem iblk_sem (t : Fin cfg0.N) (b : Fin 32) (i : Fin 92) (d : Fin 512) (r : Fin 256) (hr : r.val = t.val * 32 + b.val) :
    (iblk m c 1 t : S32x92x512.Idx → EReal) (ix3 b i d) = (m (c, Proc.tc.devRef main_arg1) : S256x92x512.Idx → EReal) (ix3 r i d) := by
  refine Eq.trans ?_ (V_sem m c r i d)
  show (V m c main_v1 : S256x92x512.Idx → EReal) ((win0_1.rect t).emb (ix3 b i d)) = _
  refine congrArg (V m c main_v1 : S256x92x512.Idx → EReal) (funext fun a => Fin.ext ?_)
  rw [Pipeline.Window.rect_emb_val win0_1 t _ a rfl, index_sem t]
  match a with
  | ⟨0, _⟩ => exact hr.symm
  | ⟨1, _⟩ => exact Nat.zero_add _
  | ⟨2, _⟩ => exact Nat.zero_add _

theorem iblk_proj (t : Fin cfg0.N) (d : Fin 512) (l : Fin 256) :
    (iblk m c 2 t : S512x256.Idx → EReal) (ix2 d l) = (V m c main_v3 : S512x256.Idx → EReal) (ix2 d l) := by
  show (V m c main_v3 : S512x256.Idx → EReal) ((win0_2.rect t).emb (ix2 d l)) = _
  refine congrArg (V m c main_v3 : S512x256.Idx → EReal) (funext fun a => Fin.ext ?_)
  rw [Pipeline.Window.rect_emb_val win0_2 t _ a rfl, index_proj t]
  match a with
  | ⟨0, _⟩ => exact Nat.zero_add _
  | ⟨1, _⟩ => exact Nat.zero_add _

theorem iblk_gcn (t : Fin cfg0.N) (d k : Fin 512) :
    (iblk m c 3 t : S512x512.Idx → EReal) (ix2 d k) = (m (c, Proc.tc.devRef main_arg6) : S512x512.Idx → EReal) (ix2 d k) := by
  refine Eq.trans ?_ (V_gcn m c d k)
  show (V m c main_v4 : S512x512.Idx → EReal) ((win0_3.rect t).emb (ix2 d k)) = _
  refine congrArg (V m c main_v4 : S512x512.Idx → EReal) (funext fun a => Fin.ext ?_)
  rw [Pipeline.Window.rect_emb_val win0_3 t _ a rfl, index_gcn t]
  match a with
  | ⟨0, _⟩ => exact Nat.zero_add _
  | ⟨1, _⟩ => exact Nat.zero_add _

/-! ## The output array -/

/-- The nodes of batch entry `r`, as launched. -/
def nodes (r : Fin 256) : Fin 128 → Fin 512 → EReal :=
  Gcn.node (fun i d => (m (c, Proc.tc.devRef main_arg0) : S256x36x512.Idx → EReal) (ix3 r i d))
    (fun i d => (m (c, Proc.tc.devRef main_arg1) : S256x92x512.Idx → EReal) (ix3 r i d))

/-- After the run the output array holds, in row `r`, the kernel's formula at batch entry `r`. -/
theorem final_apply (r : Fin 256) (k : Fin 512) :
    ((dats m 0 c).arrAt 4 cfg0.N : S256x512.Idx → EReal) (ix2 r k) = Gcn.kernelOut (nodes m c r)
      (fun d h => (m (c, Proc.tc.devRef main_arg2) : S512x128.Idx → EReal) (ix2 d h))
      (fun d h => (m (c, Proc.tc.devRef main_arg4) : S512x128.Idx → EReal) (ix2 d h))
      (fun d k => (m (c, Proc.tc.devRef main_arg6) : S512x512.Idx → EReal) (ix2 d k)) k := by
  let t : Fin cfg0.N := ⟨r.val / 32, by show r.val / 32 < 8; omega⟩
  let b : Fin 32 := ⟨r.val % 32, by omega⟩
  have hr : r.val = t.val * 32 + b.val := by show r.val = r.val / 32 * 32 + r.val % 32; omega
  have hemb : (ix2 r k : S256x512.Idx) = (win0_4.rect t).emb (ix2 b k) := by
    refine funext fun a => Fin.ext ?_
    rw [Pipeline.Window.rect_emb_val win0_4 t _ a rfl, index_out t]
    match a with
    | ⟨0, _⟩ => exact hr
    | ⟨1, _⟩ => exact (Nat.zero_add _).symm
  rw [hemb]
  refine ((dats m 0 c).arrAt_emb_eq_flushed 4 Value.disjoint4 t (flush0_4 t) (ix2 b k)).trans ?_
  show (dats m 0 c).flushed 4 t (ix2 b k) = _
  rw [Value.flushed4]
  show out0_4 (iblk m c 0 t) (iblk m c 1 t) (iblk m c 2 t) (iblk m c 3 t) (ix2 b k) = _
  refine (Slab.out_apply (iblk m c 0 t) (iblk m c 1 t) (iblk m c 2 t) (iblk m c 3 t) b k).trans ?_
  have e0 : (fun i d => (iblk m c 0 t : S32x36x512.Idx → EReal) (ix3 b i d)) = _ := funext fun i => funext fun d => iblk_vis m c t b i d r hr
  have e1 : (fun i d => (iblk m c 1 t : S32x92x512.Idx → EReal) (ix3 b i d)) = _ := funext fun i => funext fun d => iblk_sem m c t b i d r hr
  have e2 : (fun (d : Fin 512) (h : Fin 128) => (iblk m c 2 t : S512x256.Idx → EReal) (ix2 d ⟨h.val, by omega⟩)) = _ :=
    funext fun d => funext fun h => (iblk_proj m c t d _).trans (V_first m c d h)
  have e3 : (fun (d : Fin 512) (h : Fin 128) => (iblk m c 2 t : S512x256.Idx → EReal) (ix2 d ⟨128 + h.val, by omega⟩)) = _ :=
    funext fun d => funext fun h => (iblk_proj m c t d _).trans (V_second m c d h)
  have e4 : (fun d k => (iblk m c 3 t : S512x512.Idx → EReal) (ix2 d k)) = _ := funext fun d => funext fun k => iblk_gcn m c t d k
  rw [e0, e1, e2, e3, e4]
  rfl

end Cert.KernelValue

end
-- ==== Proof.RefValue.lean ====
/-
  The reference's result, index by index: its operations in stages, each stage read at an index, and at zero biases
  the formula of the reference at each batch entry.
-/
module

public import proofs.«01_k».proof.Proof.Gen.ReferenceIdeal.Run
public import proofs.«01_k».proof.Proof.Formula
public import Idealize.ShloMosaic.Lib.Pointwise

@[expose] public section

noncomputable section

namespace Cert.RefValue

open Idealize.ShloMosaic Cert.ReferenceIdeal Cert.ReferenceIdeal.Gen

/-! ## The stages -/

variable {F : FTy → Type} [FloatOps F]

/-- The nodes: visual, then semantic. -/
def nodes (a0 : FVec F S256x36x512 .f32) (a1 : FVec F S256x92x512 .f32) : FVec F S256x128x512 .f32 :=
  concatenate S256x128x512 1 [⟨S256x36x512, a0⟩, ⟨S256x92x512, a1⟩] concatenates_S256x36x512_S256x92x512_S256x128x512_d1

/-- A projection of the nodes with its bias. -/
def proj (x : FVec F S256x128x512 .f32) (w : FVec F S512x128 .f32) (b : FVec F S128 .f32) : FVec F S256x128x128 .f32 :=
  addf (Host.dotGeneral dot_S256x128x512_S512x128_S256x128x128_2_0_01_1_n_n none x w)
    (broadcastInDim S256x128x128 ![0, 1, 2] bcast_S1x1x128_S256x128x128_0_1_2 (broadcastInDim S1x1x128 ![2] bcast_S128_S1x1x128_2 b))

/-- The logits: one projection against the other. -/
def logits (p q : FVec F S256x128x128 .f32) : FVec F S256x128x128 .f32 :=
  Host.dotGeneral dot_S256x128x128_S256x128x128_S256x128x128_2_2_1_1_0_0 none p q

/-- The row maximum of the logits, over the last axis. -/
def top (l : FVec F S256x128x128 .f32) : FVec F S256x128 .f32 :=
  Host.reduce FloatOps.maximumf l (constant S_ .f32 0xFF800000#32) reducesTo_S256x128x128_S256x128_d2 h_S_

/-- The row maximum once more against −∞, as the softmax spells it. -/
def peak (l : FVec F S256x128x128 .f32) : FVec F S256x128 .f32 :=
  maximumf (broadcastInDim S256x128 ![] bcast_S_S256x128 (constant S_ .f32 0xFF800000#32)) (top l)

/-- The exponentials of the logits less the row maximum. -/
def expo (l : FVec F S256x128x128 .f32) : FVec F S256x128x128 .f32 :=
  Host.exp (subf l (broadcastInDim S256x128x128 ![0, 1, 2] bcast_S256x128x1_S256x128x128_0_1_2
    (broadcastInDim S256x128x1 ![0, 1] bcast_S256x128_S256x128x1_0_1 (peak l))))

/-- Each exponential over its row's sum. -/
def weights (e : FVec F S256x128x128 .f32) : FVec F S256x128x128 .f32 :=
  Host.divf e (broadcastInDim S256x128x128 ![0, 1, 2] bcast_S256x128x1_S256x128x128_0_1_2
    (broadcastInDim S256x128x1 ![0, 1] bcast_S256x128_S256x128x1_0_1
      (Host.reduceAdd e (constant S_ .f32 0x00000000#32) reducesTo_S256x128x128_S256x128_d2 h_S_)))

/-- The weighted sums of nodes. -/
def aggr (s : FVec F S256x128x128 .f32) (x : FVec F S256x128x512 .f32) : FVec F S256x128x512 .f32 :=
  Host.dotGeneral dot_S256x128x128_S256x128x512_S256x128x512_2_1_1_2_0_0 none s x

/-- The last linear map with its bias, the clip at zero, and the mean over the nodes. -/
def tail (g : FVec F S256x128x512 .f32) (w : FVec F S512x512 .f32) (b : FVec F S512 .f32) : FVec F S256x512 .f32 :=
  Host.divf (Host.reduceAdd (maximumf (addf (Host.dotGeneral dot_S256x128x512_S512x512_S256x128x512_2_0_01_1_n_n none g w)
      (broadcastInDim S256x128x512 ![0, 1, 2] bcast_S1x1x512_S256x128x512_0_1_2 (broadcastInDim S1x1x512 ![2] bcast_S512_S1x1x512_2 b)))
      (broadcastInDim S256x128x512 ![] bcast_S_S256x128x512 (constant S_ .f32 0x00000000#32)))
    (constant S_ .f32 0x00000000#32) reducesTo_S256x128x512_S256x512_d1 h_S_)
    (broadcastInDim S256x512 ![] bcast_S_S256x512 (constant S_ .f32 0x43000000#32))

/-- The reference as a function of its eight arguments. -/
def result (a0 : FVec F S256x36x512 .f32) (a1 : FVec F S256x92x512 .f32) (a2 : FVec F S512x128 .f32) (a3 : FVec F S128 .f32)
    (a4 : FVec F S512x128 .f32) (a5 : FVec F S128 .f32) (a6 : FVec F S512x512 .f32) (a7 : FVec F S512 .f32) : FVec F S256x512 .f32 :=
  tail (aggr (weights (expo (logits (proj (nodes a0 a1) a2 a3) (proj (nodes a0 a1) a4 a5)))) (nodes a0 a1)) a6 a7

/-- The run's result is the stages composed. -/
theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_out0 Value.res_main_v29 result tail aggr weights expo peak top logits proj nodes
  rfl

/-! ## The stages read at an index -/

theorem nodes_apply (a0 : FVec Ideal S256x36x512 .f32) (a1 : FVec Ideal S256x92x512 .f32) (r : Fin 256) (i : Fin 128) (d : Fin 512) :
    nodes a0 a1 (ix3 r i d) = Gcn.node (fun i d => a0 (ix3 r i d)) (fun i d => a1 (ix3 r i d)) i d := by
  pointwise [nodes]
  rfl

theorem proj_apply (x : FVec Ideal S256x128x512 .f32) (w : FVec Ideal S512x128 .f32) (b : FVec Ideal S128 .f32) (hb : ∀ h, b (ix1 h) = (0 : EReal))
    (r : Fin 256) (i h : Fin 128) :
    proj x w b (ix3 r i h) = Gcn.proj (fun i d => x (ix3 r i d)) (fun d h => w (ix2 d h)) i h := by
  pointwise [proj, dot_S256x128x512_S512x128_S256x128x128_2_0_01_1_n_n]
  rw [hb]
  exact add_zero _

theorem logits_apply (p q : FVec Ideal S256x128x128 .f32) (r : Fin 256) (i j : Fin 128) :
    logits p q (ix3 r i j) = ∑ h, p (ix3 r i h) * q (ix3 r j h) := by
  pointwise [logits, dot_S256x128x128_S256x128x128_S256x128x128_2_2_1_1_0_0]

theorem top_apply (l : FVec Ideal S256x128x128 .f32) (r : Fin 256) (i : Fin 128) :
    top l (ix2 r i) = Gcn.rowMax (fun i j => l (ix3 r i j)) i := by
  have h : S256x128x128.Reduces [2] S256x128 := by decide
  refine (Host.reduce_eq_fold_single FloatOps.maximumf l _ _ h _ _).trans ?_
  have e : l ∘ h.lift (ix2 r i) = fun j : Fin 128 => l (ix3 r i j) := by
    funext j
    refine congrArg l (funext fun a => Fin.ext ?_)
    match a with
    | ⟨0, _⟩ => rfl
    | ⟨1, _⟩ => rfl
    | ⟨2, _⟩ => rfl
  exact congrArg (fun f => Finset.fold max (Ideal.ofBits .f32 0xFF800000#32) f (Finset.univ : Finset (Fin 128))) e

/-- The maximum against −∞ changes nothing. -/
theorem max_bot_apply (v : FVec Ideal S256x128 .f32) (j : S256x128.Idx) :
    maximumf (broadcastInDim S256x128 ![] bcast_S_S256x128 (constant S_ .f32 0xFF800000#32)) v j = v j := by
  have e : maximumf (broadcastInDim S256x128 ![] bcast_S_S256x128 (constant S_ .f32 0xFF800000#32)) v j =
      max (Ideal.ofBits .f32 0xFF800000#32) (v j) := rfl
  rw [e, Gcn.ofBits_neg_inf, max_eq_right bot_le]

theorem peak_apply (l : FVec Ideal S256x128x128 .f32) (r : Fin 256) (i : Fin 128) :
    peak l (ix2 r i) = Gcn.rowMax (fun i j => l (ix3 r i j)) i := by
  unfold peak
  rw [max_bot_apply, top_apply]

theorem expo_apply (l : FVec Ideal S256x128x128 .f32) (r : Fin 256) (i j : Fin 128) :
    expo l (ix3 r i j) = Gcn.weight (fun i j => l (ix3 r i j)) i j := by
  have e : expo l (ix3 r i j) = Ideal.exp (l (ix3 r i j) - peak l (ix2 r i)) := by
    pointwise [expo]
  rw [e, peak_apply, Gcn.weight]

theorem weights_apply (e : FVec Ideal S256x128x128 .f32) (r : Fin 256) (i j : Fin 128) :
    weights e (ix3 r i j) = Ideal.div (e (ix3 r i j)) (∑ j, e (ix3 r i j)) := by
  pointwise [weights]

theorem aggr_apply (s : FVec Ideal S256x128x128 .f32) (x : FVec Ideal S256x128x512 .f32) (r : Fin 256) (i : Fin 128) (d : Fin 512) :
    aggr s x (ix3 r i d) = ∑ j, s (ix3 r i j) * x (ix3 r j d) := by
  pointwise [aggr, dot_S256x128x128_S256x128x512_S256x128x512_2_1_1_2_0_0]

theorem tail_apply (g : FVec Ideal S256x128x512 .f32) (w : FVec Ideal S512x512 .f32) (b : FVec Ideal S512 .f32) (hb : ∀ k, b (ix1 k) = (0 : EReal))
    (r : Fin 256) (k : Fin 512) :
    tail g w b (ix2 r k) = Ideal.div (∑ i, max (∑ d, g (ix3 r i d) * w (ix2 d k)) 0) (Ideal.ofBits .f32 0x43000000#32) := by
  pointwise [tail, dot_S256x128x512_S512x512_S256x128x512_2_0_01_1_n_n]
  simp only [hb, add_zero]

/-- At zero biases row `r` of the reference's result is the reference's formula at batch entry `r`. -/
theorem result_apply (a0 : FVec Ideal S256x36x512 .f32) (a1 : FVec Ideal S256x92x512 .f32) (a2 : FVec Ideal S512x128 .f32) (a3 : FVec Ideal S128 .f32)
    (a4 : FVec Ideal S512x128 .f32) (a5 : FVec Ideal S128 .f32) (a6 : FVec Ideal S512x512 .f32) (a7 : FVec Ideal S512 .f32)
    (h3 : ∀ h, a3 (ix1 h) = (0 : EReal)) (h5 : ∀ h, a5 (ix1 h) = (0 : EReal)) (h7 : ∀ k, a7 (ix1 k) = (0 : EReal)) (r : Fin 256) (k : Fin 512) :
    result a0 a1 a2 a3 a4 a5 a6 a7 (ix2 r k) = Gcn.referenceOut (Gcn.node (fun i d => a0 (ix3 r i d)) (fun i d => a1 (ix3 r i d)))
      (fun d h => a2 (ix2 d h)) (fun d h => a4 (ix2 d h)) (fun d k => a6 (ix2 d k)) k := by
  have hn : (fun i d => nodes a0 a1 (ix3 r i d)) = Gcn.node (fun i d => a0 (ix3 r i d)) (fun i d => a1 (ix3 r i d)) :=
    funext fun i => funext fun d => nodes_apply a0 a1 r i d
  have hl : (fun i j => logits (proj (nodes a0 a1) a2 a3) (proj (nodes a0 a1) a4 a5) (ix3 r i j)) =
      Gcn.score (Gcn.node (fun i d => a0 (ix3 r i d)) (fun i d => a1 (ix3 r i d))) (fun d h => a2 (ix2 d h)) (fun d h => a4 (ix2 d h)) := by
    funext i j
    rw [logits_apply]
    simp only [proj_apply _ _ _ h3, proj_apply _ _ _ h5, hn]
    rfl
  unfold result
  rw [tail_apply _ _ _ h7]
  simp only [aggr_apply, weights_apply, expo_apply, hl, nodes_apply]
  rfl

end Cert.RefValue

end
-- ==== Proof.Pre.lean ====
/-
  What the precondition says of the arguments, entry by entry.
-/
module

public import proofs.«01_k».proof.Pre_finite_and_unbiased
public import proofs.«01_k».proof.Proof.Formula
public import Idealize.ShloMosaic.Lib.ReduceAll
public import Idealize.ShloMosaic.Lib.Pointwise
public import Idealize.ShloMosaic.Lib.WordArith

@[expose] public section

noncomputable section

namespace Cert.Pre

open Idealize.ShloMosaic Cert.Pre_finite_and_unbiased

instance : Subsingleton S_.Idx := ⟨fun _ _ => funext fun a => a.elim0⟩

/-- An array whose absolute values all compare below infinity has real entries. -/
theorem real_of_all {s : Shape} {dims : List (Fin s.rank)} (x : FVec Ideal s .f32) (hb : S_.BroadcastsInDim s (![] : Fin 0 → Fin s.rank))
    (hr : s.ReducesTo dims S_) (hu : 0 < S_.numel) (o : S_.Idx)
    (h : Host.reduce IntOp.andi (cmpf .olt (Host.absf x) (broadcastInDim s ![] hb (constant S_ .f32 0x7F800000#32))) (constantI S_ 1 1#1) hr hu o = 1#1)
    (i : s.Idx) : Gcn.IsReal (x i) := by
  have e : Ideal.cmp .olt (max (x i) (-x i)) (Ideal.ofBits .f32 0x7F800000#32) = 1#1 := Host.reduce_andi_all _ _ _ _ _ h i
  rw [Gcn.ofBits_pos_inf] at e
  have hlt : max (x i) (-x i) < ⊤ := of_decide_eq_true ((WordArith.ofBool_eq_one_iff _).1 e)
  refine ⟨fun ht => ?_, fun hb => ?_⟩
  · rw [ht] at hlt; simp at hlt
  · rw [hb] at hlt; simp at hlt

/-- An array whose entries all compare equal to zero is zero. -/
theorem zero_of_all {s : Shape} {dims : List (Fin s.rank)} (x : FVec Ideal s .f32) (hb : S_.BroadcastsInDim s (![] : Fin 0 → Fin s.rank))
    (hr : s.ReducesTo dims S_) (hu : 0 < S_.numel) (o : S_.Idx)
    (h : Host.reduce IntOp.andi (cmpf .oeq x (broadcastInDim s ![] hb (constant S_ .f32 0x00000000#32))) (constantI S_ 1 1#1) hr hu o = 1#1)
    (i : s.Idx) : x i = (0 : EReal) := by
  have e : Ideal.cmp .oeq (x i) (Ideal.ofBits .f32 0x00000000#32) = 1#1 := Host.reduce_andi_all _ _ _ _ _ h i
  rw [Ideal.ofBits_zero_f32] at e
  exact of_decide_eq_true ((WordArith.ofBool_eq_one_iff _).1 e)

/-- The precondition: the nodes and both projections' weights are real, and the three biases are zero. -/
theorem of_fn [Facts] (a0 : FVec Ideal S256x36x512 .f32) (a1 : FVec Ideal S256x92x512 .f32) (a2 : FVec Ideal S512x128 .f32) (a3 : FVec Ideal S128 .f32)
    (a4 : FVec Ideal S512x128 .f32) (a5 : FVec Ideal S128 .f32) (a6 : FVec Ideal S512x512 .f32) (a7 : FVec Ideal S512 .f32)
    (h : fn a0 a1 a2 a3 a4 a5 a6 a7 = fun _ => 1#1) :
    (∀ i, Gcn.IsReal (a0 i)) ∧ (∀ i, Gcn.IsReal (a1 i)) ∧ (∀ i, Gcn.IsReal (a2 i)) ∧ (∀ i, Gcn.IsReal (a4 i))
      ∧ (∀ i, a3 i = (0 : EReal)) ∧ (∀ i, a5 i = (0 : EReal)) ∧ (∀ i, a7 i = (0 : EReal)) := by
  have o : S_.Idx := fun a => a.elim0
  obtain ⟨h, e7⟩ := IntOp.andi_eq_one.1 (congrFun h o)
  obtain ⟨h, e5⟩ := IntOp.andi_eq_one.1 h
  obtain ⟨h, e3⟩ := IntOp.andi_eq_one.1 h
  obtain ⟨h, e4⟩ := IntOp.andi_eq_one.1 h
  obtain ⟨h, e2⟩ := IntOp.andi_eq_one.1 h
  obtain ⟨e0, e1⟩ := IntOp.andi_eq_one.1 h
  exact ⟨real_of_all a0 _ _ _ o e0, real_of_all a1 _ _ _ o e1, real_of_all a2 _ _ _ o e2, real_of_all a4 _ _ _ o e4,
    zero_of_all a3 _ _ _ o e3, zero_of_all a5 _ _ _ o e5, zero_of_all a7 _ _ _ o e7⟩

end Cert.Pre

end
-- ==== Proof.lean ====
/-
  The claims: the kernel's frame at the bit-exact and at the ideal instance, the reference's frame, the preservation
  of the kernel's text, and the equality of the two results over the extended reals. The equality is put together here:
  the kernel's array (Proof/KernelValue.lean) and the reference's result (Proof/RefValue.lean) are, row by row, the two
  formulas of Proof/Formula.lean, equal because under the precondition (Proof/Pre.lean) the logits are real numbers.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_and_unbiased
public import proofs.«01_k».proof.Proof.KernelValue
public import proofs.«01_k».proof.Proof.RefValue
public import proofs.«01_k».proof.Proof.Pre
public import Idealize.ShloMosaic.Lib.Quiescent

@[expose] public section

noncomputable section

namespace Cert.Proof

open Idealize.ShloMosaic Idealize.ShloMosaic.TcCoe Idealize.SL.Sem

/-- The reference runs, leaves its arguments as they were and, having no semaphore, ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments the precondition admits, the kernel's array and the reference's result are equal. -/
theorem values_eq (m : (ℓ : Loc Cert.KernelIdeal.nD Cert.KernelIdeal.τ Cert.KernelIdeal.sig) → Buf (Elt Ideal) ℓ)
    (hpre : Cert.Pre_KernelIdeal_finite_and_unbiased m) (c : Dev Cert.KernelIdeal.nD) :
    (RefValue.result (F := Ideal)
      (m (c, Proc.tc.devRef Cert.KernelIdeal.main_arg0)) (m (c, Proc.tc.devRef Cert.KernelIdeal.main_arg1))
      (m (c, Proc.tc.devRef Cert.KernelIdeal.main_arg2)) (m (c, Proc.tc.devRef Cert.KernelIdeal.main_arg3))
      (m (c, Proc.tc.devRef Cert.KernelIdeal.main_arg4)) (m (c, Proc.tc.devRef Cert.KernelIdeal.main_arg5))
      (m (c, Proc.tc.devRef Cert.KernelIdeal.main_arg6)) (m (c, Proc.tc.devRef Cert.KernelIdeal.main_arg7)) :
        Cert.KernelIdeal.S256x512.Idx → EReal)
      = (Cert.KernelIdeal.Gen.dats m 0 c).arrAt 4 Cert.KernelIdeal.cfg0.N := by
  obtain ⟨h0, h1, h2, h4, h3, h5, h7⟩ := Pre.of_fn _ _ _ _ _ _ _ _ (hpre c)
  funext j
  obtain ⟨r, k, rfl⟩ : ∃ (r : Fin 256) (k : Fin 512), j = ix2 r k := ⟨j 0, j 1, funext fun a => by fin_cases a <;> rfl⟩
  refine (RefValue.result_apply _ _ _ _ _ _ _ _ (fun h => h3 _) (fun h => h5 _) (fun k => h7 _) r k).trans ?_
  refine Eq.trans ?_ (KernelValue.final_apply m c r k).symm
  exact (Gcn.kernelOut_eq_referenceOut _ (Gcn.score_isReal (Gcn.node_isReal (fun i d => h0 _) fun i d => h1 _)
    (fun d h => h2 _) fun d h => h4 _) k).symm

/-- The kernel's result is the reference's, over the extended reals, under the precondition. -/
theorem algebraic : Cert.algebraic_KernelIdeal_ReferenceIdeal_pre_finite_and_unbiased := by
  intro m ρ m' ρ' hpre hargs
  refine ⟨fun c => (Cert.KernelIdeal.Gen.dats m 0 c).arrAt 4 Cert.KernelIdeal.cfg0.N, Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7⟩ := hargs c
  refine (RefValue.res_eq m' c).trans ?_
  rw [e0, e1, e2, e3, e4, e5, e6, e7]
  exact values_eq m hpre c

theorem claim : Cert.Claim :=
  ⟨Cert.Kernel.Gen.facts, Cert.KernelIdeal.Gen.facts, Cert.ReferenceIdeal.Gen.facts, Cert.Pre_finite_and_unbiased.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
